-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attn_equal_split [hPre_finite_attn_equal_split : Cert.Pre_finite_attn_equal_split.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attn_equal_split.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attn_equal_split [hPre_finite_attn_equal_split : Cert.Pre_finite_attn_equal_split.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attn_equal_split.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_attn_equal_split [hKernelIdeal : Cert.KernelIdeal.Facts] [hPre_finite_attn_equal_split : Cert.Pre_finite_attn_equal_split.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attn_equal_split m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_attn_equal_split [hReferenceIdeal : Cert.ReferenceIdeal.Facts] [hPre_finite_attn_equal_split : Cert.Pre_finite_attn_equal_split.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attn_equal_split m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_attn_equal_split [hKernelIdeal : Cert.KernelIdeal.Facts] [hReferenceIdeal : Cert.ReferenceIdeal.Facts] [hPre_finite_attn_equal_split : Cert.Pre_finite_attn_equal_split.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attn_equal_split m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_attn_equal_split : Cert.Pre_finite_attn_equal_split.Facts),
    quiescent_Kernel (hKernel := hKernel)
    ∧ quiescent_KernelIdeal (hKernelIdeal := hKernelIdeal)
    ∧ quiescent_KernelIdeal_pre_finite_attn_equal_split (hKernelIdeal := hKernelIdeal) (hPre_finite_attn_equal_split := hPre_finite_attn_equal_split)
    ∧ quiescent_ReferenceIdeal (hReferenceIdeal := hReferenceIdeal)
    ∧ quiescent_ReferenceIdeal_pre_finite_attn_equal_split (hReferenceIdeal := hReferenceIdeal) (hPre_finite_attn_equal_split := hPre_finite_attn_equal_split)
    ∧ preserves_Kernel_KernelIdeal
    ∧ algebraic_KernelIdeal_ReferenceIdeal_pre_finite_attn_equal_split (hKernelIdeal := hKernelIdeal) (hReferenceIdeal := hReferenceIdeal) (hPre_finite_attn_equal_split := hPre_finite_attn_equal_split)
-- ==== Pre_finite_attn_equal_split.lean ====
abbrev S16384x1024 : Shape := ⟨2, ![16384, 1024]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S512x2 : Shape := ⟨2, ![512, 2]⟩
abbrev S2 : Shape := ⟨1, ![2]⟩
abbrev S9 : Shape := ⟨1, ![9]⟩
abbrev S_ : Shape := ⟨0, ![]⟩
abbrev S1x9 : Shape := ⟨2, ![1, 9]⟩
abbrev S256x9 : Shape := ⟨2, ![256, 9]⟩

class Facts : Prop where
  bcast_S_S9 : S_.BroadcastsInDim S9 (![] : Fin 0 → Fin S9.rank)
  bcast_S_S256x1 : S_.BroadcastsInDim S256x1 (![] : Fin 0 → Fin S256x1.rank)
  bcast_S9_S1x9_1 : S9.BroadcastsInDim S1x9 (![1] : Fin 1 → Fin S1x9.rank)
  bcast_S256x1_S256x9_0_1 : S256x1.BroadcastsInDim S256x9 (![0, 1] : Fin 2 → Fin S256x9.rank)
  bcast_S1x9_S256x9_0_1 : S1x9.BroadcastsInDim S256x9 (![0, 1] : Fin 2 → Fin S256x9.rank)

variable [Facts]

def fn {F : FTy → Type} [FloatOps F] (main_arg0 : FVec F S16384x1024 .f32) (main_arg1 : FVec F S1024x512 .f32) (main_arg2 : FVec F S512 .f32) (main_arg3 : FVec F S512x256 .f32) (main_arg4 : FVec F S512x256 .f32) (main_arg5 : FVec F S256x1 .f32) (main_arg6 : FVec F S512x2 .f32) (main_arg7 : FVec F S2 .f32) (main_arg8 : IVec S9 32) : IVec S256x9 1 :=
  let main_v0 : IVec S9 32 := iotaInDim S9 32 0
  let main_c : IVec S_ 32 := constantI S_ 32 2048#32
  let main_v1 : IVec S9 32 := broadcastInDim S9 ![] bcast_S_S9 main_c
  let main_v2 : IVec S9 32 := muli main_v0 main_v1
  let main_v3 : FVec F S256x1 .f32 := Host.absf main_arg5
  let main_cst : FVec F S_ .f32 := constant S_ .f32 0x7F800000#32
  let main_v4 : FVec F S256x1 .f32 := broadcastInDim S256x1 ![] bcast_S_S256x1 main_cst
  let main_v5 : IVec S256x1 1 := cmpf .olt main_v3 main_v4
  let main_v6 : IVec S9 1 := cmpi .eq main_arg8 main_v2
  let main_v7 : IVec S1x9 1 := broadcastInDim S1x9 ![1] bcast_S9_S1x9_1 main_v6
  let main_v8 : IVec S256x9 1 := broadcastInDim S256x9 ![0, 1] bcast_S256x1_S256x9_0_1 main_v5
  let main_v9 : IVec S256x9 1 := broadcastInDim S256x9 ![0, 1] bcast_S1x9_S256x9_0_1 main_v7
  let main_v10 : IVec S256x9 1 := andi main_v8 main_v9
  main_v10
-- ==== Kernel.lean ====
abbrev S16384x1024 : Shape := ⟨2, ![16384, 1024]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S512x2 : Shape := ⟨2, ![512, 2]⟩
abbrev S2 : Shape := ⟨1, ![2]⟩
abbrev S9 : Shape := ⟨1, ![9]⟩
abbrev S1x256 : Shape := ⟨2, ![1, 256]⟩
abbrev S8x2 : Shape := ⟨2, ![8, 2]⟩
abbrev S2048x1024 : Shape := ⟨2, ![2048, 1024]⟩
abbrev S2048x512 : Shape := ⟨2, ![2048, 512]⟩
abbrev S1x512 : Shape := ⟨2, ![1, 512]⟩
abbrev S2048x256 : Shape := ⟨2, ![2048, 256]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x2 : Shape := ⟨2, ![1, 2]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S512x256, .f32⟩
  | .hbm, ⟨5, _⟩ => ⟨S256x1, .f32⟩
  | .hbm, ⟨6, _⟩ => ⟨S512x2, .f32⟩
  | .hbm, ⟨7, _⟩ => ⟨S2, .f32⟩
  | .hbm, ⟨8, _⟩ => ⟨S9, .i32⟩
  | .hbm, ⟨9, _⟩ => ⟨S1x256, .f32⟩
  | .hbm, ⟨10, _⟩ => ⟨S8x2, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S512, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S512x2, .f32⟩
  | .local _ .vmem, ⟨8, _⟩ => ⟨S2, .f32⟩
  | .local _ .vmem, ⟨9, _⟩ => ⟨S8x2, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v38 : Index := Scalar.indexCast arg0
  let c0_20 : Index := 0#32
  ![v38.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x1024 : Shape := ⟨2, ![16384, 1024]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S512x2 : Shape := ⟨2, ![512, 2]⟩
abbrev S2 : Shape := ⟨1, ![2]⟩
abbrev S9 : Shape := ⟨1, ![9]⟩
abbrev S_ : Shape := ⟨0, ![]⟩
abbrev S16384 : Shape := ⟨1, ![16384]⟩
abbrev S7 : Shape := ⟨1, ![7]⟩
abbrev S7x1 : Shape := ⟨2, ![7, 1]⟩
abbrev S16384x512 : Shape := ⟨2, ![16384, 512]⟩
abbrev S1x512 : Shape := ⟨2, ![1, 512]⟩
abbrev S16384x256 : Shape := ⟨2, ![16384, 256]⟩
abbrev S16384x1 : Shape := ⟨2, ![16384, 1]⟩
abbrev S8 : Shape := ⟨1, ![8]⟩
abbrev S1x8 : Shape := ⟨2, ![1, 8]⟩
abbrev S16384x8 : Shape := ⟨2, ![16384, 8]⟩
abbrev S8x512 : Shape := ⟨2, ![8, 512]⟩
abbrev S8x2 : Shape := ⟨2, ![8, 2]⟩
abbrev S1x2 : Shape := ⟨2, ![1, 2]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S512x256, .f32⟩
  | .hbm, ⟨5, _⟩ => ⟨S256x1, .f32⟩
  | .hbm, ⟨6, _⟩ => ⟨S512x2, .f32⟩
  | .hbm, ⟨7, _⟩ => ⟨S2, .f32⟩
  | .hbm, ⟨8, _⟩ => ⟨S9, .i32⟩
  | .hbm, ⟨9, _⟩ => ⟨S_, .i32⟩
  | .hbm, ⟨10, _⟩ => ⟨S16384, .i32⟩
  | .hbm, ⟨11, _⟩ => ⟨S7, .i32⟩
  | .hbm, ⟨12, _⟩ => ⟨S_, .i32⟩
  | .hbm, ⟨13, _⟩ => ⟨S7, .i32⟩
  | .hbm, ⟨14, _⟩ => ⟨S7, .i1⟩
  | .hbm, ⟨15, _⟩ => ⟨S_, .i32⟩
  | .hbm, ⟨16, _⟩ => ⟨S7, .i32⟩
  | .hbm, ⟨17, _⟩ => ⟨S7, .i32⟩
  | .hbm, ⟨18, _⟩ => ⟨S7, .i32⟩
  | .hbm, ⟨19, _⟩ => ⟨S7x1, .i32⟩
  | .hbm, ⟨20, _⟩ => ⟨S_, .i32⟩
  | .hbm, ⟨21, _⟩ => ⟨S7, .i32⟩
  | .hbm, ⟨22, _⟩ => ⟨S16384, .i32⟩
  | .hbm, ⟨23, _⟩ => ⟨S_, .i32⟩
  | .hbm, ⟨24, _⟩ => ⟨S_, .i32⟩
  | .hbm, ⟨25, _⟩ => ⟨S16384, .i32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x1, .f32⟩
  | .hbm, ⟨46, _⟩ => ⟨S16384, .f32⟩
  | .hbm, ⟨47, _⟩ => ⟨S16384x1, .i32⟩
  | .hbm, ⟨48, _⟩ => ⟨S8, .i32⟩
  | .hbm, ⟨49, _⟩ => ⟨S1x8, .i32⟩
  | .hbm, ⟨50, _⟩ => ⟨S16384x8, .i32⟩
  | .hbm, ⟨51, _⟩ => ⟨S16384x8, .i32⟩
  | .hbm, ⟨52, _⟩ => ⟨S16384x8, .i1⟩
  | .hbm, ⟨53, _⟩ => ⟨S16384x1, .f32⟩
  | .hbm, ⟨54, _⟩ => ⟨S_, .f32⟩
  | .hbm, ⟨55, _⟩ => ⟨S_, .f32⟩
  | .hbm, ⟨56, _⟩ => ⟨S16384x8, .f32⟩
  | .hbm, ⟨57, _⟩ => ⟨S16384x8, .f32⟩
  | .hbm, ⟨58, _⟩ => ⟨S16384x8, .f32⟩
  | .hbm, ⟨59, _⟩ => ⟨S_, .f32⟩
  | .hbm, ⟨60, _⟩ => ⟨S8, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S_, .f32⟩
  | .hbm, ⟨73, _⟩ => ⟨S8, .f32⟩
  | .hbm, ⟨74, _⟩ => ⟨S16384x1, .i32⟩
  | .hbm, ⟨75, _⟩ => ⟨S8, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S16384, .f32⟩
  | .hbm, ⟨85, _⟩ => ⟨S16384, .f32⟩
  | .hbm, ⟨86, _⟩ => ⟨S16384x1, .f32⟩
  | .hbm, ⟨87, _⟩ => ⟨S16384x512, .f32⟩
  | .hbm, ⟨88, _⟩ => ⟨S16384x512, .f32⟩
  | .hbm, ⟨89, _⟩ => ⟨S_, .f32⟩
  | .hbm, ⟨90, _⟩ => ⟨S8x512, .f32⟩
  | .hbm, ⟨91, _⟩ => ⟨S16384x1, .i32⟩
  | .hbm, ⟨92, _⟩ => ⟨S8x512, .f32⟩
  | .hbm, ⟨93, _⟩ => ⟨S8x2, .f32⟩
  | .hbm, ⟨94, _⟩ => ⟨S1x2, .f32⟩
  | .hbm, ⟨95, _⟩ => ⟨S8x2, .f32⟩
  | .hbm, ⟨96, _⟩ => ⟨S8x2, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_call0_call0_c : Ref sig .tc := ⟨.hbm, 23, rfl⟩
abbrev main_call0_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_cst : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== Proof.KernelStep.lean ====
module

public import proofs.«01_k».proof.Proof.Gen.KernelIdeal.Frame
public import proofs.«01_k».proof.Proof.Gen.KernelIdeal.Skeleton
public import Idealize.ShloMosaic.Lib.ValueIdxCore
public import Idealize.ShloMosaic.Lib.WritesUnit
public import Idealize.ShloMosaic.Lib.WholeRead
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.Claim

@[expose] public section

set_option maxRecDepth 16384

noncomputable section

namespace Cert.KernelIdeal.Hand

open Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The kernel's body run once at a grid point. -/

/-- What one grid point computes from its blocks: the pooled row of logits with the bias added. -/
def rowOf (x0 : Vec F S2048x1024 .f32) (x1 : Vec F S1024x512 .f32) (x2 : Vec F S512 .f32) (x3 : Vec F S512x256 .f32)
    (x4 : Vec F S512x256 .f32) (x5 : Vec F S1x256 .f32) (x6 : Vec F S512x2 .f32) (x7 : Vec F S2 .f32) : Vec F S1x2 .f32 :=
  k0_pay1 (k0_pay2 x0 x1 x2 x3 x4 x5 x6) (k0_pay3 x7)

/-- The 8x2 block `y` with its row `p` replaced by the row `v`. -/
def setRow (p : Nat) (v : Vec F S1x2 .f32) (y : Vec F S8x2 .f32) : Vec F S8x2 .f32 :=
  fun j => if (j 0).val = p then v (ix2 (0 : Fin 1) (j 1)) else y j

/-- The stored row's offset is the grid coordinate. -/
theorem off_row (i : grid0.Coords) : k0_off1 i = ![(i 0).val, 0] := by
  have h : (i 0).val < 8 := (i 0).isLt
  unfold k0_off1 Scalar.indexCast
  funext a
  match a with
  | ⟨0, _⟩ => show (BitVec.ofNat 32 (i 0).val).toNat = (i 0).val; rw [BitVec.toNat_ofNat]; omega
  | ⟨1, _⟩ => rfl

/-- The two offsets of a whole load are zero. -/
theorem zero2 (a : Fin 2) : (![0, 0] : Fin 2 → Nat) a = 0 := by match a with | ⟨0, _⟩ => rfl | ⟨1, _⟩ => rfl
/-- The one offset of a whole load is zero. -/
theorem zero1 (a : Fin 1) : (![0] : Fin 1 → Nat) a = 0 := by match a with | ⟨0, _⟩ => rfl

/-- A load of the whole of a whole buffer reads its contents. -/
theorem load_whole {s : Shape} {arg : Memref sig .tc .vmem s .f32} (h : arg.IsWhole) (x : Vec F s .f32) {off : Fin s.rank → Nat}
    (inb : ∀ a, off a + s.size a ≤ s.size a) (hoff : ∀ a, off a = 0) :
    View.readAt (Elt F) arg.view (Rect.unit off s.size inb).toLoadRect (h.unread x) = x := by
  funext j
  refine (h.readAt_unread x _ j).trans (congrArg x (funext fun a => Fin.ext ?_))
  show off a + 1 * (j a).val = (j a).val
  rw [hoff a]; omega

set_option maxHeartbeats 1000000 in
/-- One run of the body: from the eight inputs' blocks and any contents of the output block, it leaves the inputs as they were and
    the output with the row of its grid coordinate replaced by the row it computed. -/
theorem kernelRun (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S512x2 .f32) (harg7 : arg7.IsWhole) (arg8 : Memref sig .tc .vmem S2 .f32) (harg8 : arg8.IsWhole) (arg9 : Memref sig .tc .vmem S8x2 .f32) (harg9 : arg9.IsWhole)
    (x0 : Vec F S2048x1024 .f32) (x1 : Vec F S1024x512 .f32) (x2 : Vec F S512 .f32) (x3 : Vec F S512x256 .f32) (x4 : Vec F S512x256 .f32) (x5 : Vec F S1x256 .f32) (x6 : Vec F S512x2 .f32) (x7 : Vec F S2 .f32) (y : Vec F S8x2 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
              ∗ owns (c : Thread nD τ) arg9 fullShare (setRow (i 0).val (rowOf x0 x1 x2 x3 x4 x5 x6 x7) y)) -∗ K ⟨⟩))
      ⊢ wp frame (wpE (defs₀ (F := F)) Variants.none c none) E (cc0__packmil_kernel i arg1 harg1 arg2 harg2 arg3 harg3 arg4 harg4 arg5 harg5 arg6 harg6 arg7 harg7 arg8 harg8 arg9 harg9) K := by
  simp only [cc0__packmil_kernel_eq_skeleton]; unfold cc0__packmil_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr; swap; · iexact H8
  ipureintro
  funext j
  unfold setRow
  by_cases hj : (j 0).val = (i 0).val
  · rw [if_pos hj]
    refine (View.read_writes_cons_rows_of_mem (o := (i 0).val) _ _ _ _ _ j (ix2 (0 : Fin 1) (j 1)) (off_row i) ?_ rfl).trans ?_
    · rw [hj]; rfl
    unfold kernelRun.sl.r kernelRun.sl.r_1
    unfold rowOf
    rw [load_whole harg1 x0 _ zero2, load_whole harg2 x1 _ zero2, load_whole harg3 x2 _ zero1, load_whole harg4 x3 _ zero2,
      load_whole harg5 x4 _ zero2, load_whole harg6 x5 _ zero2, load_whole harg7 x6 _ zero2, load_whole harg8 x7 _ zero1]
    rfl
  · rw [if_neg hj]
    refine (View.read_writes_cons_rows_of_not_mem (o := (i 0).val) (W := 1) _ _ _ _ _ j (off_row i) rfl ?_).trans ?_
    · omega
    exact congrFun (harg9.read_unread y) j

end Cert.KernelIdeal.Hand

end
-- ==== Proof.KernelRun.lean ====
module

public import proofs.«01_k».proof.Proof.KernelStep

@[expose] public section

set_option maxRecDepth 16384

noncomputable section

namespace Cert.KernelIdeal.Hand

open Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

variable (m : (ℓ : Loc nD τ sig) → Buf (Elt F) ℓ) (ρ : Dev nD → PrngReg)

/-! ## The proof data: after point `t`, the output block's rows up to `t` are final -/

/-- The row that point `t` computes from the blocks that the launch memory puts before it. -/
def pointRow (c : Dev nD) (t : Fin cfg0.N) : Vec F S1x2 .f32 :=
  rowOf (iblk m c 0 t) (iblk m c 1 t) (iblk m c 2 t) (iblk m c 3 t) (iblk m c 4 t) (iblk m c 5 t) (iblk m c 6 t) (iblk m c 7 t)

/-- The 8x2 result: row `p` is what point `p` computes. -/
def result (c : Dev nD) : Vec F S8x2 .f32 := fun j => pointRow m c ⟨(j 0).val, (j 0).isLt⟩ (ix2 (0 : Fin 1) (j 1))

/-- The output block agrees with the result on the rows below `n`. -/
def RowsDone (c : Dev nD) (n : Nat) (X : Vec F S8x2 .f32) : Prop := ∀ j : S8x2.Idx, (j 0).val < n → X j = result m c j

/-- The one window held to a relation: the output. -/
def marked : Fin 9 → Bool := fun w => w.val == 8

/-- What is known of a window after point `t`: of the output, that the rows up to `t` are done. -/
def known (c : Dev nD) (w : Fin cfg0.W) (t : Fin cfg0.N) : ((cfg0.win w).block.Idx → Elt F (cfg0.win w).elt) → Prop :=
  match w with
  | ⟨8, _⟩ => fun X => RowsDone m c (t.val + 1) X
  | _ => fun _ => True

/-- The pipeline's data on core `c`: the arrays as the region finds them, each input left as its block, the output's contents left
    to the relation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- A window's array is the region's entry contents. -/
theorem A_eq (c : Dev nD) (w : Fin cfg0.W) : (dats m 0 c).A w = V m c (Pipeline.arrRef spec0 w) := by dsimp only [dats]

/-- Input 0's block is left in place. -/
theorem after_0 (c : Dev nD) (t : Fin cfg0.N) : (dats m 0 c).after 0 t = iblk m c 0 t := by dsimp only [dats]
/-- Input 1's block is left in place. -/
theorem after_1 (c : Dev nD) (t : Fin cfg0.N) : (dats m 0 c).after 1 t = iblk m c 1 t := by dsimp only [dats]
/-- Input 2's block is left in place. -/
theorem after_2 (c : Dev nD) (t : Fin cfg0.N) : (dats m 0 c).after 2 t = iblk m c 2 t := by dsimp only [dats]
/-- Input 3's block is left in place. -/
theorem after_3 (c : Dev nD) (t : Fin cfg0.N) : (dats m 0 c).after 3 t = iblk m c 3 t := by dsimp only [dats]
/-- Input 4's block is left in place. -/
theorem after_4 (c : Dev nD) (t : Fin cfg0.N) : (dats m 0 c).after 4 t = iblk m c 4 t := by dsimp only [dats]
/-- Input 5's block is left in place. -/
theorem after_5 (c : Dev nD) (t : Fin cfg0.N) : (dats m 0 c).after 5 t = iblk m c 5 t := by dsimp only [dats]
/-- Input 6's block is left in place. -/
theorem after_6 (c : Dev nD) (t : Fin cfg0.N) : (dats m 0 c).after 6 t = iblk m c 6 t := by dsimp only [dats]
/-- Input 7's block is left in place. -/
theorem after_7 (c : Dev nD) (t : Fin cfg0.N) : (dats m 0 c).after 7 t = iblk m c 7 t := by dsimp only [dats]

/-- Input 0's block is there when the body starts. -/
theorem before_0 (c : Dev nD) (t : Fin cfg0.N) (d) : (dats m 0 c).before 0 t d = iblk m c 0 t :=
  before0_0_of m (dats m 0 c) (A_eq m c 0) (after_0 m c) t d
/-- Input 1's block is there when the body starts. -/
theorem before_1 (c : Dev nD) (t : Fin cfg0.N) (d) : (dats m 0 c).before 1 t d = iblk m c 1 t :=
  before0_1_of m (dats m 0 c) (A_eq m c 1) (after_1 m c) t d
/-- Input 2's block is there when the body starts. -/
theorem before_2 (c : Dev nD) (t : Fin cfg0.N) (d) : (dats m 0 c).before 2 t d = iblk m c 2 t :=
  before0_2_of m (dats m 0 c) (A_eq m c 2) (after_2 m c) t d
/-- Input 3's block is there when the body starts. -/
theorem before_3 (c : Dev nD) (t : Fin cfg0.N) (d) : (dats m 0 c).before 3 t d = iblk m c 3 t :=
  before0_3_of m (dats m 0 c) (A_eq m c 3) (after_3 m c) t d
/-- Input 4's block is there when the body starts. -/
theorem before_4 (c : Dev nD) (t : Fin cfg0.N) (d) : (dats m 0 c).before 4 t d = iblk m c 4 t :=
  before0_4_of m (dats m 0 c) (A_eq m c 4) (after_4 m c) t d
/-- Input 5's block is there when the body starts. -/
theorem before_5 (c : Dev nD) (t : Fin cfg0.N) (d) : (dats m 0 c).before 5 t d = iblk m c 5 t :=
  before0_5_of m (dats m 0 c) (A_eq m c 5) (after_5 m c) t d
/-- Input 6's block is there when the body starts. -/
theorem before_6 (c : Dev nD) (t : Fin cfg0.N) (d) : (dats m 0 c).before 6 t d = iblk m c 6 t :=
  before0_6_of m (dats m 0 c) (A_eq m c 6) (after_6 m c) t d
/-- Input 7's block is there when the body starts. -/
theorem before_7 (c : Dev nD) (t : Fin cfg0.N) (d) : (dats m 0 c).before 7 t d = iblk m c 7 t :=
  before0_7_of m (dats m 0 c) (A_eq m c 7) (after_7 m c) t d

/-- The relational data: the exact data with the output held to `known`. -/
abbrev rdats (c : Dev nD) : Pipeline.RDat τ (Elt F) Unit ℕ (UR sig nD τ) ℕ cfg0 c := (dats m 0 c).toRRel marked (known m c)

/-- The grid's one coordinate is the point's number. -/
theorem coord_val (t : Fin cfg0.N) : (grid0.coords t 0).val = t.val := by
  rcases fin_N0 t with rfl | rfl | rfl | rfl | rfl | rfl | rfl | rfl <;> decide

/-- What the body finds in the output block at point `t`: the rows below `t` are done. -/
theorem found_rows (c : Dev nD) (t : Fin cfg0.N) (Y : Vec F S8x2 .f32) (h : (rdats m c).Finds 8 t Y) : RowsDone m c t.val Y := by
  by_cases ht : t.val = 0
  · intro j hj; omega
  · have hN : t.val < 8 := t.isLt
    have h' := ((rdats m c).finds_of_pos (w := 8) (t := t) rfl ht Y).mp h
    rcases h' with h' | h'
    · have := (flush0_8 _).mp h'
      dsimp only at this; omega
    · have hk := (dats m 0 c).toRRel_leaves (fgt := marked) (Rl := known m c) (w := 8) rfl h'
      have hk' : RowsDone m c (t.val - 1 + 1) Y := hk
      intro j hj; exact hk' j (by omega)

/-- Replacing row `t` by the row that point `t` computes extends the rows done by one. -/
theorem rows_step (c : Dev nD) (t : Fin cfg0.N) (Y : Vec F S8x2 .f32) (h : RowsDone m c t.val Y) :
    RowsDone m c (t.val + 1) (setRow (grid0.coords t 0).val (pointRow m c t) Y) := by
  intro j hj
  unfold setRow
  rw [coord_val]
  by_cases hjt : (j 0).val = t.val
  · rw [if_pos hjt]; unfold result
    have : (⟨(j 0).val, (j 0).isLt⟩ : Fin cfg0.N) = t := Fin.ext hjt
    rw [this]
  · rw [if_neg hjt]; exact h j (by omega)

/-! ## The body obligation -/

/-- What the body is given at point `t`: the nine staging buffers at what the proof data say it finds. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ Y, ⌜(rdats m c).Finds 8 t Y⌝ ∗ owns (c : Thread nD τ) (win0_8.stage (cfg0.slots t 8)) fullShare Y))

/-- What the body gives back at point `t`: the nine staging buffers at what the proof data say it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ X, ⌜known m c 8 t X⌝ ∗ owns (c : Thread nD τ) (win0_8.stage (cfg0.slots t 8)) fullShare X))

set_option maxHeartbeats 800000 in
/-- The body at a point: the inputs hold their blocks, the output has its earlier rows done; the run adds the point's row. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
  have hdone := rows_step m c t Y (found_rows m c t Y hY)
  iapply (kernelRun c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr; swap; · iexact H8
  ipureintro; exact hdone

/-- The body that the launch runs at point `t` is the kernel's function on the point's staging buffers. -/
theorem defs₀_row (t : Fin cfg0.N) :
    defs₀ (F := F) .tc cfg0.body (cfg0.bodyArgs t (cfg0.slots t)) = bodyAt0 t := by
  unfold defs₀; rw [Defs.onTc_tc]

/-- The pipeline's body obligation with the output held to its relation. -/
theorem body_obligation (c : Dev nD) :
    BodyObligationRel (dats (F := F) m 0 c) (defs₀ (F := F)) Variants.none () Set.univ marked (known m c) := fun t => by
  rw [bigSep_W0, bigSep_W0, defs₀_row]
  refine triple_restated (sound_body m c t) rfl ?_ fun _ => ?_
  · first | exact .rfl | fail "pre"
  · first | exact .rfl | fail "post"

/-! ## The launch, the frame and the result -/

set_option backward.isDefEq.respectTransparency.types false in
/-- The launch: every run ends with the arrays as the data say and every counter at zero. -/
theorem run_all : θ_run defs (onTc (τ := τ) (main (F := F))) (s₀ m ρ)
    (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The output's array is written back whole, once, at the last point. -/
theorem whole_last : (cfg0.win 8).WholeAt t0_7 := by decide +kernel

/-- What the post of the launch says of the result. -/
theorem result_of_post {r : PUnit × MemSt nD τ sig (Elt F)} (h : Pipeline.RDat.FramePost (cfgs 0) (rdats m) (V m) r) (c : Dev nD) :
    r.2.mem ((c.tc : Thread nD τ).loc main_v1) = result m c := by
  obtain ⟨X, hX, hG⟩ := Pipeline.RDat.ArrAt.emb_eq_of_wholeAt ((h c).1 8) whole_last
  have hk : RowsDone m c (7 + 1) X := (dats m 0 c).toRRel_leaves (fgt := marked) (Rl := known m c) (w := 8) rfl hX
  funext j
  refine (hG j).trans ?_
  exact hk j (j 0).isLt

/-- What the post of the launch says of the arguments: each ends as launched. -/
theorem args_of_post {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    (h.arr_in c 4 rfl).trans ((A_eq m c 4).trans (V_main_arg4 m c)),
    ((h c).2 main_arg5 (Pipeline.mem_restRefs_of main_arg5 (by decide) (by decide))).trans (V_main_arg5 m c),
    (h.arr_in c 6 rfl).trans ((A_eq m c 6).trans (V_main_arg6 m c)),
    (h.arr_in c 7 rfl).trans ((A_eq m c 7).trans (V_main_arg7 m c)),
    ((h c).2 main_arg8 (Pipeline.mem_restRefs_of main_arg8 (by decide) (by decide))).trans (V_main_arg8 m c)⟩

end Cert.KernelIdeal.Hand

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.KernelRun

@[expose] public section

noncomputable section

namespace Cert.Proof

open Idealize.ShloMosaic Idealize.ShloMosaic.TcCoe Idealize.SL.Sem

/-- The kernel's program at any reading of its floats runs, leaves its arguments as launched and every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3)
        ∧ r.2.mem ((c.tc : Thread _ _).loc Cert.KernelIdeal.main_arg4) = m ((c.tc : Thread _ _).loc Cert.KernelIdeal.main_arg4)
        ∧ r.2.mem ((c.tc : Thread _ _).loc Cert.KernelIdeal.main_arg5) = m ((c.tc : Thread _ _).loc Cert.KernelIdeal.main_arg5)
        ∧ r.2.mem ((c.tc : Thread _ _).loc Cert.KernelIdeal.main_arg6) = m ((c.tc : Thread _ _).loc Cert.KernelIdeal.main_arg6)
        ∧ r.2.mem ((c.tc : Thread _ _).loc Cert.KernelIdeal.main_arg7) = m ((c.tc : Thread _ _).loc Cert.KernelIdeal.main_arg7)
        ∧ r.2.mem ((c.tc : Thread _ _).loc Cert.KernelIdeal.main_arg8) = m ((c.tc : Thread _ _).loc Cert.KernelIdeal.main_arg8))
      ∧ r.2.sem = fun _ => 0) :=
  (θ_run _ _ _).mono
    (fun _ h => ⟨fun c => Cert.KernelIdeal.Hand.args_of_post m h.1 c, h.2⟩) (Cert.KernelIdeal.Hand.run_all m ρ)

/-- The kernel's body table is the idealized kernel's: no operation of the body is rewritten. -/
theorem bodies_eq {F : FTy → Type} [FloatOps F] : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | 0, (t, s) => rfl
  | ⟨_ + 1, h⟩, _ => exact absurd h (Nat.not_lt.2 (Nat.le_add_left _ _))

/-- So is its table with the region and the pipeline. -/
theorem defs_eq {F : FTy → Type} [FloatOps F] : Cert.Kernel.defs (F := F) = Cert.KernelIdeal.defs (F := F) :=
  congrArg (Pipeline.defs (Cert.Kernel.pcfgs (F := F))) bodies_eq

/-- The kernel over machine floats runs, leaves its arguments as launched and every counter at zero: its program is the
    idealized kernel's program, no operation of it being rewritten. -/
theorem frame_kernel : Cert.quiescent_Kernel (hKernel := Cert.Kernel.Gen.facts) :=
  fun m ρ _ => by rw [defs_eq]; exact frame_any (F := Bits) m ρ

/-- The idealized kernel runs, leaves its arguments as launched and every counter at zero. -/
theorem frame_kernelIdeal : Cert.quiescent_KernelIdeal (hKernelIdeal := Cert.KernelIdeal.Gen.facts) :=
  fun m ρ _ => frame_any (F := Ideal) m ρ

/-- The reference runs and leaves its arguments as launched; it has no semaphore, so every counter is at zero. -/
theorem frame_referenceIdeal : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Cert.ReferenceIdeal.Value.run m ρ)

end Cert.Proof

end
-- ==== Proof.Pre.lean ====
module

public import proofs.«01_k».proof.Pre_finite_attn_equal_split
public import Idealize.ShloMosaic.Lib.Pointwise

@[expose] public section

noncomputable section

namespace Cert.Pre_finite_attn_equal_split

open Idealize.ShloMosaic

/-- The shape relations that the precondition's operations state. -/
theorem facts : Facts where
  bcast_S_S9 := by decide
  bcast_S_S256x1 := by decide
  bcast_S9_S1x9_1 := by decide
  bcast_S256x1_S256x9_0_1 := by decide
  bcast_S1x9_S256x9_0_1 := by decide

/-- An extended real whose absolute value is below infinity is a real. -/
theorem real_of_abs_lt_top (x : EReal) (h : max x (-x) < ⊤) : ∃ r : ℝ, x = (r : EReal) := by
  induction x with
  | bot => simp at h
  | top => simp at h
  | coe r => exact ⟨r, rfl⟩

/-- The word of the positive infinity reads as the top. -/
theorem infinity_pattern : Ideal.ofBits FTy.f32 2139095040#32 = ⊤ := by
  simp [Ideal.ofBits, Ideal.ieee]

/-- A flag is set exactly if its Boolean holds. -/
theorem flag_set (b : Bool) : BitVec.ofBool b = 1#1 ↔ b = true := by
  cases b <;> decide

/-- A conjunction of flags is set only if both are. -/
theorem both_set (p q : BitVec 1) (h : IntOp.andi p q = 1#1) : p = 1#1 ∧ q = 1#1 := by
  revert p q
  decide

variable [Facts]

/-- What the precondition says at one index: the attention weight of the row is finite, the boundary of the column is the
    equal split's. -/
theorem at_index (x0 : FVec Ideal S16384x1024 .f32) (x1 : FVec Ideal S1024x512 .f32) (x2 : FVec Ideal S512 .f32)
    (x3 x4 : FVec Ideal S512x256 .f32) (x5 : FVec Ideal S256x1 .f32) (x6 : FVec Ideal S512x2 .f32) (x7 : FVec Ideal S2 .f32)
    (x8 : IVec S9 32) (h : fn (F := Ideal) x0 x1 x2 x3 x4 x5 x6 x7 x8 = fun _ => 1#1) (a : Fin 256) (i : Fin 9) :
    (∃ r : ℝ, x5 (ix2 a 0) = (r : EReal)) ∧ x8 (ix1 i) = BitVec.ofNat 32 i.val * 2048#32 := by
  have h1 := congrFun h (ix2 a i)
  pointwise [fn] at h1
  obtain ⟨ha, hb⟩ := both_set _ _ h1
  constructor
  · have htop : Ideal.ofBits FTy.f32 2139095040#32 = ⊤ := infinity_pattern
    rw [htop, flag_set] at ha
    exact real_of_abs_lt_top _ (of_decide_eq_true ha)
  · have he : BitVec.ofBool (x8 (ix1 i) == IntOp.muli (BitVec.ofNat 32 i.val) 2048#32) = 1#1 := hb
    rw [flag_set, beq_iff_eq] at he
    exact he

end Cert.Pre_finite_attn_equal_split

end
-- ==== Proof.KernelBlocks.lean ====
module

public import proofs.«01_k».proof.Proof.KernelRun
public import Idealize.ShloMosaic.Lib.Pointwise

@[expose] public section

set_option maxRecDepth 16384

noncomputable section

namespace Cert.KernelIdeal.Hand

open Cert.KernelIdeal.Gen
open Idealize.ShloMosaic Idealize.ShloMosaic.TcCoe

variable {F : FTy → Type} [FloatOps F] (m : (ℓ : Loc nD τ sig) → Buf (Elt F) ℓ)

/-! ## The windows' blocks, read off the arguments -/

/-- The flat instances' window moves one row block per point. -/
theorem index_0 (t : Fin cfg0.N) : win0_0.index t 0 = t.val ∧ win0_0.index t 1 = 0 := by
  rcases fin_N0 t with rfl | rfl | rfl | rfl | rfl | rfl | rfl | rfl <;> decide

/-- The first layer's window stays. -/
theorem index_1 (t : Fin cfg0.N) : win0_1.index t 0 = 0 ∧ win0_1.index t 1 = 0 := by
  rcases fin_N0 t with rfl | rfl | rfl | rfl | rfl | rfl | rfl | rfl <;> decide

/-- The first bias's window stays. -/
theorem index_2 (t : Fin cfg0.N) : win0_2.index t 0 = 0 := by
  rcases fin_N0 t with rfl | rfl | rfl | rfl | rfl | rfl | rfl | rfl <;> decide

/-- The value projection's window stays. -/
theorem index_3 (t : Fin cfg0.N) : win0_3.index t 0 = 0 ∧ win0_3.index t 1 = 0 := by
  rcases fin_N0 t with rfl | rfl | rfl | rfl | rfl | rfl | rfl | rfl <;> decide

/-- The gate projection's window stays. -/
theorem index_4 (t : Fin cfg0.N) : win0_4.index t 0 = 0 ∧ win0_4.index t 1 = 0 := by
  rcases fin_N0 t with rfl | rfl | rfl | rfl | rfl | rfl | rfl | rfl <;> decide

/-- The attention row's window stays. -/
theorem index_5 (t : Fin cfg0.N) : win0_5.index t 0 = 0 ∧ win0_5.index t 1 = 0 := by
  rcases fin_N0 t with rfl | rfl | rfl | rfl | rfl | rfl | rfl | rfl <;> decide

/-- The last layer's window stays. -/
theorem index_6 (t : Fin cfg0.N) : win0_6.index t 0 = 0 ∧ win0_6.index t 1 = 0 := by
  rcases fin_N0 t with rfl | rfl | rfl | rfl | rfl | rfl | rfl | rfl <;> decide

/-- The last bias's window stays. -/
theorem index_7 (t : Fin cfg0.N) : win0_7.index t 0 = 0 := by
  rcases fin_N0 t with rfl | rfl | rfl | rfl | rfl | rfl | rfl | rfl <;> decide

/-- The rows of a bag are its 2048 consecutive rows of the flat array. -/
theorem block_0 (c : Dev nD) (t : Fin cfg0.N) (r : Fin 2048) (q : Fin 1024) (p : Fin 16384) (hp : p.val = 2048 * t.val + r.val) :
    (iblk m c 0 t : Vec F S2048x1024 .f32) (ix2 r q) = (m ((c.tc : Thread nD τ).loc main_arg0) : Vec F S16384x1024 .f32) (ix2 p q) := by
  rw [← V_main_arg0 m c]
  unfold iblk
  rw [View.read_apply]
  refine congrArg (V m c main_arg0) (funext fun a => Fin.ext ?_)
  match a with
  | ⟨0, _⟩ => show win0_0.index t 0 * 2048 + 1 * r.val = p.val; rw [(index_0 t).1]; omega
  | ⟨1, _⟩ => show win0_0.index t 1 * 1024 + 1 * q.val = q.val; rw [(index_0 t).2]; omega

/-- The first layer is read whole. -/
theorem block_1 (c : Dev nD) (t : Fin cfg0.N) (r : Fin 1024) (q : Fin 512) :
    (iblk m c 1 t : Vec F S1024x512 .f32) (ix2 r q) = (m ((c.tc : Thread nD τ).loc main_arg1) : Vec F S1024x512 .f32) (ix2 r q) := by
  rw [← V_main_arg1 m c]
  unfold iblk
  rw [View.read_apply]
  refine congrArg (V m c main_arg1) (funext fun a => Fin.ext ?_)
  match a with
  | ⟨0, _⟩ => show win0_1.index t 0 * 1024 + 1 * r.val = r.val; rw [(index_1 t).1]; omega
  | ⟨1, _⟩ => show win0_1.index t 1 * 512 + 1 * q.val = q.val; rw [(index_1 t).2]; omega

/-- The first bias is read whole. -/
theorem block_2 (c : Dev nD) (t : Fin cfg0.N) (r : Fin 512) :
    (iblk m c 2 t : Vec F S512 .f32) (ix1 r) = (m ((c.tc : Thread nD τ).loc main_arg2) : Vec F S512 .f32) (ix1 r) := by
  rw [← V_main_arg2 m c]
  unfold iblk
  rw [View.read_apply]
  refine congrArg (V m c main_arg2) (funext fun a => Fin.ext ?_)
  match a with
  | ⟨0, _⟩ => show win0_2.index t 0 * 512 + 1 * r.val = r.val; rw [index_2 t]; omega

/-- The value projection is read whole. -/
theorem block_3 (c : Dev nD) (t : Fin cfg0.N) (r : Fin 512) (q : Fin 256) :
    (iblk m c 3 t : Vec F S512x256 .f32) (ix2 r q) = (m ((c.tc : Thread nD τ).loc main_arg3) : Vec F S512x256 .f32) (ix2 r q) := by
  rw [← V_main_arg3 m c]
  unfold iblk
  rw [View.read_apply]
  refine congrArg (V m c main_arg3) (funext fun a => Fin.ext ?_)
  match a with
  | ⟨0, _⟩ => show win0_3.index t 0 * 512 + 1 * r.val = r.val; rw [(index_3 t).1]; omega
  | ⟨1, _⟩ => show win0_3.index t 1 * 256 + 1 * q.val = q.val; rw [(index_3 t).2]; omega

/-- The gate projection is read whole. -/
theorem block_4 (c : Dev nD) (t : Fin cfg0.N) (r : Fin 512) (q : Fin 256) :
    (iblk m c 4 t : Vec F S512x256 .f32) (ix2 r q) = (m ((c.tc : Thread nD τ).loc main_arg4) : Vec F S512x256 .f32) (ix2 r q) := by
  rw [← V_main_arg4 m c]
  unfold iblk
  rw [View.read_apply]
  refine congrArg (V m c main_arg4) (funext fun a => Fin.ext ?_)
  match a with
  | ⟨0, _⟩ => show win0_4.index t 0 * 512 + 1 * r.val = r.val; rw [(index_4 t).1]; omega
  | ⟨1, _⟩ => show win0_4.index t 1 * 256 + 1 * q.val = q.val; rw [(index_4 t).2]; omega

/-- The last layer is read whole. -/
theorem block_6 (c : Dev nD) (t : Fin cfg0.N) (r : Fin 512) (q : Fin 2) :
    (iblk m c 6 t : Vec F S512x2 .f32) (ix2 r q) = (m ((c.tc : Thread nD τ).loc main_arg6) : Vec F S512x2 .f32) (ix2 r q) := by
  rw [← V_main_arg6 m c]
  unfold iblk
  rw [View.read_apply]
  refine congrArg (V m c main_arg6) (funext fun a => Fin.ext ?_)
  match a with
  | ⟨0, _⟩ => show win0_6.index t 0 * 512 + 1 * r.val = r.val; rw [(index_6 t).1]; omega
  | ⟨1, _⟩ => show win0_6.index t 1 * 2 + 1 * q.val = q.val; rw [(index_6 t).2]; omega

/-- The last bias is read whole. -/
theorem block_7 (c : Dev nD) (t : Fin cfg0.N) (r : Fin 2) :
    (iblk m c 7 t : Vec F S2 .f32) (ix1 r) = (m ((c.tc : Thread nD τ).loc main_arg7) : Vec F S2 .f32) (ix1 r) := by
  rw [← V_main_arg7 m c]
  unfold iblk
  rw [View.read_apply]
  refine congrArg (V m c main_arg7) (funext fun a => Fin.ext ?_)
  match a with
  | ⟨0, _⟩ => show win0_7.index t 0 * 2 + 1 * r.val = r.val; rw [index_7 t]; omega

/-- The region finds the attention column laid out as a row. -/
theorem entry_row (c : Dev nD) : V m c main_v0
    = (shapeCast S1x256 (m ((c.tc : Thread nD τ).loc main_arg5) : Vec F S256x1 .f32) shapeCasts_S256x1_S1x256 : Vec F S1x256 .f32) := by
  rfl

/-- The attention row's window reads the attention column. -/
theorem block_5 (c : Dev nD) (t : Fin cfg0.N) (q : Fin 256) :
    (iblk m c 5 t : Vec F S1x256 .f32) (ix2 0 q) = (m ((c.tc : Thread nD τ).loc main_arg5) : Vec F S256x1 .f32) (ix2 q 0) := by
  have h : (iblk m c 5 t : Vec F S1x256 .f32) (ix2 0 q) = (V m c main_v0 : Vec F S1x256 .f32) (ix2 0 q) := by
    unfold iblk
    rw [View.read_apply]
    refine congrArg (V m c main_v0) (funext fun a => Fin.ext ?_)
    match a with
    | ⟨0, _⟩ => show win0_5.index t 0 * 1 + 1 * (0 : Fin 1).val = (0 : Fin 1).val; rw [(index_5 t).1]; rfl
    | ⟨1, _⟩ => show win0_5.index t 1 * 256 + 1 * q.val = q.val; rw [(index_5 t).2]; omega
  rw [h, entry_row]
  pointwise

end Cert.KernelIdeal.Hand

end
-- ==== Proof.Pooling.lean ====
module

public import Idealize.ShloMosaic.Lib.Pointwise

@[expose] public section

noncomputable section

namespace Cert.Pooling

open Idealize.ShloMosaic

/-! ## The two ways of pooling agree on the extended reals -/

/-- The place of bag `b`'s instance `t` among all instances. -/
def inst (b : Fin 8) (t : Fin 2048) : Fin 16384 := ⟨2048 * b.val + t.val, by omega⟩

/-- An instance's hidden features: a dense layer with bias and the rectifier. -/
def hidden {n K : Nat} (x : Fin n → EReal) (w : Fin n → Fin K → EReal) (b : Fin K → EReal) (k : Fin K) : EReal :=
  max (∑ q, x q * w q k + b k) 0

/-- An instance's gated attention score. -/
def score {K A : Nat} (h : Fin K → EReal) (v u : Fin K → Fin A → EReal) (w : Fin A → EReal) : EReal :=
  ∑ a, Ideal.tanh (∑ k, h k * v k a) * Ideal.logistic (∑ k, h k * u k a) * w a

/-- A bag's logit as the kernel computes it: features summed with the raw exponentials, one division at the end. -/
def logit {n Q K A : Nat} (x : Fin n → Fin Q → EReal) (w : Fin Q → Fin K → EReal) (b : Fin K → EReal)
    (v u : Fin K → Fin A → EReal) (wa : Fin A → EReal) (p : Fin K → EReal) (β : EReal) : EReal :=
  Ideal.div (∑ k, (∑ t, Ideal.exp (score (hidden (x t) w b) v u wa) * hidden (x t) w b k) * p k)
    (∑ t, Ideal.exp (score (hidden (x t) w b) v u wa)) + β

/-- The hyperbolic tangent of any extended real is a real. -/
theorem tanh_real (x : EReal) : ∃ r : ℝ, Ideal.tanh x = (r : EReal) := by
  induction x with
  | bot => exact ⟨-1, by simp⟩
  | top => exact ⟨1, by simp⟩
  | coe r => exact ⟨_, rfl⟩

/-- The logistic function of any extended real is a real. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- A finite sum of reals, taken among the extended reals, is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Summing over the instances whose bag is `b` is summing over the bag's instances. -/
theorem sum_bag (b : Fin 8) (f : Fin 16384 → EReal) :
    (∑ t : Fin 16384, if t.val / 2048 = b.val then f t else 0) = ∑ r, f (inst b r) := by
  have hval : ∀ (x : Fin 8) (r : Fin 2048), (finProdFinEquiv (m := 8) (n := 2048) (x, r) : Fin 16384) = inst x r := fun x r =>
    Fin.ext (by show r.val + 2048 * x.val = 2048 * x.val + r.val; omega)
  rw [← (finProdFinEquiv (m := 8) (n := 2048)).sum_comp, Fintype.sum_prod_type, Finset.sum_eq_single b]
  · refine Finset.sum_congr rfl fun r _ => ?_
    rw [hval, if_pos (by show (2048 * b.val + r.val) / 2048 = b.val; omega)]
  · intro x _ hx
    refine Finset.sum_eq_zero fun r _ => ?_
    rw [hval, if_neg (by show ¬ (2048 * x.val + r.val) / 2048 = b.val; have := Fin.val_ne_of_ne hx; omega)]
  · intro h; exact absurd (Finset.mem_univ b) h

/-- The largest of the reals of a nonempty set, minus infinity standing for the others, is a real. -/
theorem max_real {n : Nat} (P : Fin n → Prop) [DecidablePred P] (f : Fin n → EReal) (hf : ∀ i, ∃ r : ℝ, f i = (r : EReal))
    (i : Fin n) (hi : P i) : ∃ r : ℝ, Finset.univ.fold max ⊥ (fun i => if P i then f i else ⊥) = (r : EReal) := by
  have hle := (Finset.le_fold_max (s := Finset.univ) (b := (⊥ : EReal)) (f := fun i => if P i then f i else ⊥) (f i)).2
    (Or.inr ⟨i, Finset.mem_univ i, by rw [if_pos hi]⟩)
  have hlt := (Finset.fold_max_lt (s := Finset.univ) (b := (⊥ : EReal)) (f := fun i => if P i then f i else ⊥) (⊤ : EReal)).2
    ⟨bot_lt_top, fun j _ => by
      obtain ⟨r, hr⟩ := hf j
      by_cases h : P j
      · simp only [if_pos h, hr]; exact EReal.coe_lt_top r
      · simp only [if_neg h]; exact bot_lt_top⟩
  obtain ⟨r, hr⟩ := hf i
  refine ⟨_, (EReal.coe_toReal hlt.ne ?_).symm⟩
  intro h
  rw [h, hr] at hle
  exact absurd (le_bot_iff.1 hle) (EReal.coe_ne_bot r)

/-- With a finite attention vector every score is a real, whatever the features are. -/
theorem score_real {K A : Nat} (h : Fin K → EReal) (v u : Fin K → Fin A → EReal) (w : Fin A → EReal)
    (hw : ∀ a, ∃ r : ℝ, w a = (r : EReal)) : ∃ r : ℝ, score h v u w = (r : EReal) := by
  choose wr hwr using hw
  choose T hT using tanh_real
  choose L hL using logistic_real
  refine ⟨∑ a, T (∑ k, h k * v k a) * L (∑ k, h k * u k a) * wr a, ?_⟩
  unfold score
  rw [← sum_coe]
  refine Finset.sum_congr rfl fun a _ => ?_
  rw [hT, hL, hwr, EReal.coe_mul, EReal.coe_mul]

/-- A nonnegative real factor comes out of a finite sum of extended reals. -/
theorem mul_sum_real {ι : Type} (s : Finset ι) (c : ℝ) (hc : 0 ≤ c) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

/-- The softmax weight of shifted scores is the weight of the scores themselves. -/
theorem weight_shift {n : Nat} [NeZero n] (σ : Fin n → ℝ) (M : ℝ) (t : Fin n) :
    Ideal.div (Ideal.exp ((σ t : EReal) - (M : EReal))) (∑ r, Ideal.exp ((σ r : EReal) - (M : EReal)))
      = (((1 / ∑ r, Real.exp (σ r)) * Real.exp (σ t) : ℝ) : EReal) := by
  have he : ∀ r, Ideal.exp ((σ r : EReal) - (M : EReal)) = ((Real.exp (σ r - M) : ℝ) : EReal) := fun r => by
    rw [← EReal.coe_sub]; exact Ideal.exp_coe _
  simp only [he]
  rw [sum_coe]
  have hpos : 0 < ∑ r, Real.exp (σ r - M) := Finset.sum_pos (fun r _ => Real.exp_pos _) Finset.univ_nonempty
  rw [Ideal.div_coe hpos.ne', ← EReal.coe_mul]
  congr 1
  have hs : ∑ r, Real.exp (σ r - M) = (∑ r, Real.exp (σ r)) * Real.exp (-M) := by
    rw [Finset.sum_mul]
    exact Finset.sum_congr rfl fun r _ => by rw [← Real.exp_add, sub_eq_add_neg]
  have hpos' : 0 < ∑ r, Real.exp (σ r) := Finset.sum_pos (fun r _ => Real.exp_pos _) Finset.univ_nonempty
  have hM := Real.exp_pos (-M)
  rw [hs, sub_eq_add_neg, Real.exp_add]
  field_simp

/-- Dividing once at the end is pooling with the normalized weights: the features and the last layer may be infinite. -/
theorem pool_eq {n K : Nat} [NeZero n] (σ : Fin n → ℝ) (M : ℝ) (h : Fin n → Fin K → EReal) (p : Fin K → EReal) :
    Ideal.div (∑ k, (∑ t, Ideal.exp (σ t : EReal) * h t k) * p k) (∑ t, Ideal.exp (σ t : EReal))
      = ∑ k, (∑ t, Ideal.div (Ideal.exp ((σ t : EReal) - (M : EReal))) (∑ r, Ideal.exp ((σ r : EReal) - (M : EReal))) * h t k) * p k := by
  have hpos : 0 < ∑ r, Real.exp (σ r) := Finset.sum_pos (fun r _ => Real.exp_pos _) Finset.univ_nonempty
  have hc : (0 : ℝ) ≤ 1 / ∑ r, Real.exp (σ r) := by positivity
  simp only [weight_shift, EReal.coe_mul, mul_assoc]
  simp only [Ideal.exp_coe, mul_sum_real _ _ hc]
  rw [sum_coe, Ideal.div_coe hpos.ne', mul_comm]
  simp only [mul_assoc, mul_sum_real _ _ hc]

end Cert.Pooling

end
-- ==== Proof.KernelValue.lean ====
module

public import proofs.«01_k».proof.Proof.KernelBlocks
public import proofs.«01_k».proof.Proof.Pooling

@[expose] public section

set_option maxRecDepth 16384

noncomputable section

namespace Cert.KernelIdeal.Hand

open Cert.KernelIdeal.Gen
open Idealize.ShloMosaic Idealize.ShloMosaic.TcCoe

/-! ## The kernel's result, written plainly -/

/-- What the kernel's body writes for its bag is the bag's logits. -/
theorem rowOf_apply (x0 : Vec Ideal S2048x1024 .f32) (x1 : Vec Ideal S1024x512 .f32) (x2 : Vec Ideal S512 .f32)
    (x3 x4 : Vec Ideal S512x256 .f32) (x5 : Vec Ideal S1x256 .f32) (x6 : Vec Ideal S512x2 .f32) (x7 : Vec Ideal S2 .f32) (j : Fin 2) :
    rowOf x0 x1 x2 x3 x4 x5 x6 x7 (ix2 0 j)
      = Cert.Pooling.logit (fun (t : Fin 2048) q => x0 (ix2 t q)) (fun q k => x1 (ix2 q k)) (fun k => x2 (ix1 k))
          (fun k a => x3 (ix2 k a)) (fun k a => x4 (ix2 k a)) (fun a => x5 (ix2 0 a)) (fun k => x6 (ix2 k j)) (x7 (ix1 j)) := by
  unfold rowOf
  pointwise [k0_pay1, k0_pay2, k0_pay3]
  simp only [Finset.univ_unique, Finset.sum_singleton]
  rfl

variable (m : (ℓ : Loc nD τ sig) → Buf (Elt Ideal) ℓ)

/-- The kernel's result at bag `b` and class `j`: the logit of the bag's 2048 consecutive instances. -/
theorem result_apply (c : Dev nD) (b : Fin 8) (j : Fin 2) :
    result m c (ix2 b j)
      = Cert.Pooling.logit
          (fun (t : Fin 2048) q => (m ((c.tc : Thread nD τ).loc main_arg0) : Vec Ideal S16384x1024 .f32) (ix2 (Cert.Pooling.inst b t) q))
          (fun q k => (m ((c.tc : Thread nD τ).loc main_arg1) : Vec Ideal S1024x512 .f32) (ix2 q k))
          (fun k => (m ((c.tc : Thread nD τ).loc main_arg2) : Vec Ideal S512 .f32) (ix1 k))
          (fun k a => (m ((c.tc : Thread nD τ).loc main_arg3) : Vec Ideal S512x256 .f32) (ix2 k a))
          (fun k a => (m ((c.tc : Thread nD τ).loc main_arg4) : Vec Ideal S512x256 .f32) (ix2 k a))
          (fun a => (m ((c.tc : Thread nD τ).loc main_arg5) : Vec Ideal S256x1 .f32) (ix2 a 0))
          (fun k => (m ((c.tc : Thread nD τ).loc main_arg6) : Vec Ideal S512x2 .f32) (ix2 k j))
          ((m ((c.tc : Thread nD τ).loc main_arg7) : Vec Ideal S2 .f32) (ix1 j)) := by
  refine (rowOf_apply _ _ _ _ _ _ _ _ j).trans ?_
  congr 1
  · exact funext fun t => funext fun q => block_0 m c _ t q _ rfl
  · exact funext fun q => funext fun k => block_1 m c _ q k
  · exact funext fun k => block_2 m c _ k
  · exact funext fun k => funext fun a => block_3 m c _ k a
  · exact funext fun k => funext fun a => block_4 m c _ k a
  · exact funext fun a => block_5 m c _ a
  · exact funext fun k => block_6 m c _ k j
  · exact block_7 m c _ j

end Cert.KernelIdeal.Hand

end
-- ==== Proof.RefStages.lean ====
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal.Gen
open Idealize.ShloMosaic Idealize.ShloMosaic.TcCoe

/-! ## The reference's computation, stage by stage -/

/-- The interior boundaries, a negative one counted from the end. -/
def marks (cu : IVec S9 32) : IVec S7 32 :=
  select (cmpi .slt (extractStridedSlice S7 ![1] cu slices_S9_S7_1) (broadcastInDim S7 ![] bcast_S_S7 (constantI S_ 32 0#32)))
    (addi (extractStridedSlice S7 ![1] cu slices_S9_S7_1) (broadcastInDim S7 ![] bcast_S_S7 (constantI S_ 32 16384#32)))
    (extractStridedSlice S7 ![1] cu slices_S9_S7_1)

/-- How many interior boundaries lie at each instance. -/
def starts (mk : IVec S7 32) : IVec S16384 32 :=
  Host.scatter scatter_S16384_S7x1_S7_n_0_0_1 IntOp.addi (broadcastInDim S16384 ![] bcast_S_S16384 (constantI S_ 32 0#32))
    (broadcastInDim S7x1 ![0] bcast_S7_S7x1_0 mk) (broadcastInDim S7 ![] bcast_S_S7 (constantI S_ 32 1#32))

/-- Each instance's bag: the running sum of the boundaries. -/
def bagOf (st : IVec S16384 32) : IVec S16384 32 :=
  Host.reduceWindow IntOp.addi ![16384] ![1] ![16383] ![0] st (broadcastInDim S_ ![] bcast_S_S_ (constantI S_ 32 0#32))
    reduceWindows_S16384_S16384_w16384s1p16383_0 h_S_

/-- The instances' features. -/
def feats (x : FVec Ideal S16384x1024 .f32) (w : FVec Ideal S1024x512 .f32) (b : FVec Ideal S512 .f32) : FVec Ideal S16384x512 .f32 :=
  maximumf (addf (Host.dotGeneral dot_S16384x1024_S1024x512_S16384x512_1_0_0_1_n_n none x w)
    (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The instances' attention scores, one column. -/
def scoreCol (h : FVec Ideal S16384x512 .f32) (v u : FVec Ideal S512x256 .f32) (w : FVec Ideal S256x1 .f32) : FVec Ideal S16384x1 .f32 :=
  Host.dotGeneral dot_S16384x256_S256x1_S16384x1_1_0_0_1_n_n none
    (mulf (Host.tanh (Host.dotGeneral dot_S16384x512_S512x256_S16384x256_1_0_0_1_n_n none h v))
      (Host.divf (broadcastInDim S16384x256 ![] bcast_S_S16384x256 (constant S_ .f32 0x3F800000#32))
        (addf (broadcastInDim S16384x256 ![] bcast_S_S16384x256 (constant S_ .f32 0x3F800000#32))
          (Host.exp (Host.negf (Host.dotGeneral dot_S16384x512_S512x256_S16384x256_1_0_0_1_n_n none h u)))))) w

/-- The scores as a vector. -/
def scoreVec (s : FVec Ideal S16384x1 .f32) : FVec Ideal S16384 .f32 := shapeCast S16384 s shapeCasts_S16384x1_S16384

/-- Each bag's largest score: the scores outside the bag count as minus infinity. -/
def bagMax (seg : IVec S16384 32) (s : FVec Ideal S16384 .f32) : FVec Ideal S8 .f32 :=
  Host.reduce FloatOps.maximumf
    (select (cmpi .eq (broadcastInDim S16384x8 ![0, 1] bcast_S16384x1_S16384x8_0_1 (broadcastInDim S16384x1 ![0] bcast_S16384_S16384x1_0 seg))
        (broadcastInDim S16384x8 ![0, 1] bcast_S1x8_S16384x8_0_1 (broadcastInDim S1x8 ![1] bcast_S8_S1x8_1 (iotaInDim S8 32 0))))
      (broadcastInDim S16384x8 ![0, 1] bcast_S16384x1_S16384x8_0_1 (broadcastInDim S16384x1 ![0] bcast_S16384_S16384x1_0 s))
      (broadcastInDim S16384x8 ![] bcast_S_S16384x8 (constant S_ .f32 0xFF800000#32)))
    (constant S_ .f32 0xFF800000#32) reducesTo_S16384x8_S8_d0 h_S_

/-- The bags as a column of indices, a negative one counted from the end. -/
def bagIdx (seg : IVec S16384 32) : IVec S16384x1 32 :=
  broadcastInDim S16384x1 ![0] bcast_S16384_S16384x1_0
    (select (cmpi .slt seg (broadcastInDim S16384 ![] bcast_S_S16384 (constantI S_ 32 0#32)))
      (addi seg (broadcastInDim S16384 ![] bcast_S_S16384 (constantI S_ 32 8#32))) seg)

/-- A value of the bags handed to each instance. -/
def spread (x : FVec Ideal S8 .f32) (seg : IVec S16384 32) : FVec Ideal S16384 .f32 :=
  Host.gather gather_S8_S16384x1_S16384_n_0_n_n_0_1_1 x (bagIdx seg)

/-- The shifted scores' exponentials. -/
def shiftExp (s mx : FVec Ideal S16384 .f32) : FVec Ideal S16384 .f32 := Host.exp (subf s mx)

/-- The bags' sums of a value of the instances. -/
def bagSum (seg : IVec S16384 32) (e : FVec Ideal S16384 .f32) : FVec Ideal S8 .f32 :=
  Host.scatterAdd scatter_S8_S16384x1_S16384_n_0_0_1 (broadcastInDim S8 ![] bcast_S_S8 (constant S_ .f32 0x00000000#32))
    (broadcastInDim S16384x1 ![0] bcast_S16384_S16384x1_0 seg) e

/-- The features, each instance's scaled by its weight. -/
def scaled (a : FVec Ideal S16384 .f32) (h : FVec Ideal S16384x512 .f32) : FVec Ideal S16384x512 .f32 :=
  mulf (broadcastInDim S16384x512 ![0, 1] bcast_S16384x1_S16384x512_0_1 (broadcastInDim S16384x1 ![0] bcast_S16384_S16384x1_0 a)) h

/-- The bags' sums of the rows of a matrix. -/
def bagRows (seg : IVec S16384 32) (y : FVec Ideal S16384x512 .f32) : FVec Ideal S8x512 .f32 :=
  Host.scatterAdd scatter_S8x512_S16384x1_S16384x512_1_0_0_1 (broadcastInDim S8x512 ![] bcast_S_S8x512 (constant S_ .f32 0x00000000#32))
    (broadcastInDim S16384x1 ![0] bcast_S16384_S16384x1_0 seg) y

/-- The bags' logits from their pooled features. -/
def logits (p : FVec Ideal S8x512 .f32) (w : FVec Ideal S512x2 .f32) (b : FVec Ideal S2 .f32) : FVec Ideal S8x2 .f32 :=
  addf (Host.dotGeneral dot_S8x512_S512x2_S8x2_1_0_0_1_n_n none p w)
    (broadcastInDim S8x2 ![0, 1] bcast_S1x2_S8x2_0_1 (broadcastInDim S1x2 ![1] bcast_S2_S1x2_1 b))

/-- The softmax weights within each bag. -/
def weights (seg : IVec S16384 32) (s : FVec Ideal S16384 .f32) : FVec Ideal S16384 .f32 :=
  Host.divf (shiftExp s (spread (bagMax seg s) seg)) (spread (bagSum seg (shiftExp s (spread (bagMax seg s) seg))) seg)

/-- The reference's result from the bags and the other arguments. -/
def whole (seg : IVec S16384 32) (x : FVec Ideal S16384x1024 .f32) (w : FVec Ideal S1024x512 .f32) (b : FVec Ideal S512 .f32)
    (v u : FVec Ideal S512x256 .f32) (wa : FVec Ideal S256x1 .f32) (wp : FVec Ideal S512x2 .f32) (bp : FVec Ideal S2 .f32) :
    FVec Ideal S8x2 .f32 :=
  logits (bagRows seg (scaled (weights seg (scoreVec (scoreCol (feats x w b) v u wa))) (feats x w b))) wp bp

set_option maxHeartbeats 4000000 in
/-- The run's composed term is the stages composed. -/
theorem res_eq (m : (ℓ : Loc nD τ sig) → Buf (Elt Ideal) ℓ) (c : Dev nD) :
    Value.res_main_v66 (F := Ideal) m c
      = whole (bagOf (starts (marks (m ((c.tc : Thread nD τ).loc main_arg8)))))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Value.res_main_v66
  rfl

end Cert.ReferenceIdeal.Hand

end
-- ==== Proof.RefBags.lean ====
module

public import proofs.«01_k».proof.Proof.RefStages
public import Idealize.ShloMosaic.Lib.Routing.OpsPair
public import Idealize.ShloMosaic.Lib.Routing.OpsSet

@[expose] public section

set_option maxRecDepth 16384

noncomputable section

namespace Cert.ReferenceIdeal.Hand

open Cert.ReferenceIdeal.Gen
open Idealize.ShloMosaic Idealize.ShloMosaic.Routing

/-! ## The bags of the equal split -/

/-- A small natural as a 32-bit word, read signed, is itself. -/
theorem toInt_small (n : Nat) (h : n < 2 ^ 31) : (BitVec.ofNat 32 n).toInt = (n : Int) := by
  rw [BitVec.toInt_eq_toNat_of_lt] <;> simp only [BitVec.toNat_ofNat] <;> omega

/-- Under the equal split the interior boundaries are the multiples of 2048. -/
theorem marks_apply (cu : IVec S9 32) (hcu : ∀ i : Fin 9, cu (ix1 i) = BitVec.ofNat 32 i.val * 2048#32) (i : Fin 7) :
    marks cu (ix1 i) = BitVec.ofNat 32 (2048 * (i.val + 1)) := by
  unfold marks
  pointwise
  rw [hcu]
  revert i
  decide +kernel

/-- Where a boundary's update lands. -/
theorem starts_lands (idx : IVec S7x1 32) (i : Fin 7) (t : Fin 16384) :
    scatter_S16384_S7x1_S7_n_0_0_1.resultIdx? (ix1 i) idx = some (ix1 t) ↔ (idx (ix2 i 0)).toInt = (t.val : Int) := by
  refine (resultIdx?_ix1 _ _ _ _).trans ?_
  have h1 : scatter_S16384_S7x1_S7_n_0_0_1.start (ix1 i) idx 0 = (idx (ix2 i 0)).toInt := by
    refine congrArg (fun q => (idx q).toInt) ?_
    funext b
    match b with
    | ⟨0, _⟩ => rfl
    | ⟨1, _⟩ => rfl
  have h2 : scatter_S16384_S7x1_S7_n_0_0_1.window (ix1 i) 0 = 0 := rfl
  rw [h1, h2]
  simp

/-- Where an instance's scalar update lands among the bags. -/
theorem bag_lands (idx : IVec S16384x1 32) (t : Fin 16384) (b : Fin 8) :
    scatter_S8_S16384x1_S16384_n_0_0_1.resultIdx? (ix1 t) idx = some (ix1 b) ↔ (idx (ix2 t 0)).toInt = (b.val : Int) := by
  refine (resultIdx?_ix1 _ _ _ _).trans ?_
  have h1 : scatter_S8_S16384x1_S16384_n_0_0_1.start (ix1 t) idx 0 = (idx (ix2 t 0)).toInt := by
    refine congrArg (fun q => (idx q).toInt) ?_
    funext b
    match b with
    | ⟨0, _⟩ => rfl
    | ⟨1, _⟩ => rfl
  have h2 : scatter_S8_S16384x1_S16384_n_0_0_1.window (ix1 t) 0 = 0 := rfl
  rw [h1, h2]
  simp

/-- Where an instance's row update lands among the bags' rows. -/
theorem bag_row_lands (idx : IVec S16384x1 32) (t : Fin 16384) (l : Fin 512) (b : Fin 8) (k : Fin 512) :
    scatter_S8x512_S16384x1_S16384x512_1_0_0_1.resultIdx? (ix2 t l) idx = some (ix2 b k)
      ↔ (idx (ix2 t 0)).toInt = (b.val : Int) ∧ l = k := by
  refine (resultIdx?_ix2 _ _ _ _ _).trans ?_
  have h1 : scatter_S8x512_S16384x1_S16384x512_1_0_0_1.start (ix2 t l) idx 0 = (idx (ix2 t 0)).toInt := by
    refine congrArg (fun q => (idx q).toInt) ?_
    funext b
    match b with
    | ⟨0, _⟩ => rfl
    | ⟨1, _⟩ => rfl
  have h2 : scatter_S8x512_S16384x1_S16384x512_1_0_0_1.window (ix2 t l) 0 = 0 := rfl
  have h3 : scatter_S8x512_S16384x1_S16384x512_1_0_0_1.start (ix2 t l) idx 1 = 0 := rfl
  have h4 : scatter_S8x512_S16384x1_S16384x512_1_0_0_1.window (ix2 t l) 1 = l.val := rfl
  rw [h1, h2, h3, h4, Fin.ext_iff]
  omega

/-- Of the seven boundaries, one lies at `t` when `t` is a positive multiple of 2048, none otherwise. -/
theorem count_marks (t : Nat) (ht : t < 16384) :
    (List.finRange 7).foldl (fun (a : BitVec 32) n => if 2048 * (n.val + 1) = t then IntOp.addi a 1#32 else a) 0#32
      = BitVec.ofNat 32 (if 0 < t ∧ 2048 ∣ t then 1 else 0) := by
  by_cases h : 2048 ∣ t
  · obtain ⟨q, rfl⟩ := h
    have hq : q < 8 := by omega
    interval_cases q <;> decide
  · rw [if_neg fun q => h q.2]
    have hno : ∀ n : Fin 7, 2048 * (n.val + 1) ≠ t := fun n e => h ⟨_, e.symm⟩
    simp only [hno, if_false]
    decide

/-- Instance `t` opens a bag other than the first exactly when it is a positive multiple of 2048. -/
theorem starts_apply (mk : IVec S7 32) (hmk : ∀ i : Fin 7, mk (ix1 i) = BitVec.ofNat 32 (2048 * (i.val + 1))) (t : Fin 16384) :
    starts mk (ix1 t) = BitVec.ofNat 32 (if 0 < t.val ∧ 2048 ∣ t.val then 1 else 0) := by
  unfold starts
  rw [scatter_at]
  have hit : ∀ n : Fin S7.numel, (scatter_S16384_S7x1_S7_n_0_0_1.resultIdx? (S7.rowMajor.symm n)
      (broadcastInDim S7x1 ![0] bcast_S7_S7x1_0 mk) = some (ix1 t)) ↔ 2048 * (n.val + 1) = t.val := by
    intro n
    have hn : n.val < 7 := (n.cast (numel1 7)).isLt
    rw [show S7.rowMajor.symm n = ix1 (n.cast (numel1 7)) from symm1 (N := 7) n, starts_lands]
    pointwise
    show (mk (ix1 (⟨n.val, hn⟩ : Fin 7))).toInt = _ ↔ _
    rw [hmk, toInt_small _ (by show 2048 * (n.val + 1) < _; omega)]
    show ((2048 * (n.val + 1) : Nat) : Int) = _ ↔ _
    omega
  simp only [hit]
  exact count_marks t.val t.isLt

/-- The bag of an instance is its number over 2048. -/
theorem bagOf_apply (st : IVec S16384 32) (hst : ∀ t : Fin 16384, st (ix1 t) = BitVec.ofNat 32 (if 0 < t.val ∧ 2048 ∣ t.val then 1 else 0))
    (t : Fin 16384) : bagOf st (ix1 t) = BitVec.ofNat 32 (t.val / 2048) := by
  unfold bagOf
  refine (cumsum1 (N := 16384) (Nm1 := 16383) rfl st (fun t => if 0 < t ∧ 2048 ∣ t then 1 else 0) hst _ rfl _ _ t).trans ?_
  congr 1
  generalize t.val = n
  induction n with
  | zero => rfl
  | succ n ih =>
    rw [List.range_succ, List.map_append, List.sum_append, ih, Nat.succ_div]
    simp

end Cert.ReferenceIdeal.Hand

end
-- ==== Proof.RefValue.lean ====
module

public import proofs.«01_k».proof.Proof.RefBags
public import proofs.«01_k».proof.Proof.Pooling

@[expose] public section

set_option maxRecDepth 16384

noncomputable section

namespace Cert.ReferenceIdeal.Hand

open Cert.ReferenceIdeal.Gen
open Idealize.ShloMosaic Idealize.ShloMosaic.Routing
open Cert.Pooling

/-! ## The reference's result, written plainly -/

/-- The features at an instance are its hidden features. -/
theorem feats_apply (x : FVec Ideal S16384x1024 .f32) (w : FVec Ideal S1024x512 .f32) (b : FVec Ideal S512 .f32)
    (t : Fin 16384) (k : Fin 512) :
    feats x w b (ix2 t k) = hidden (fun q => x (ix2 t q)) (fun q k => w (ix2 q k)) (fun k => b (ix1 k)) k := by
  unfold feats
  pointwise
  rfl

/-- The score column at an instance is its gated attention score. -/
theorem score_apply (h : FVec Ideal S16384x512 .f32) (v u : FVec Ideal S512x256 .f32) (w : FVec Ideal S256x1 .f32) (t : Fin 16384) :
    scoreVec (scoreCol h v u w) (ix1 t)
      = score (fun k => h (ix2 t k)) (fun k a => v (ix2 k a)) (fun k a => u (ix2 k a)) (fun a => w (ix2 a 0)) := by
  unfold scoreVec scoreCol
  pointwise
  rfl

/-- The shifted exponential of an instance. -/
theorem shiftExp_apply (s mx : FVec Ideal S16384 .f32) (t : Fin 16384) :
    shiftExp s mx (ix1 t) = Ideal.exp (s (ix1 t) - mx (ix1 t)) := by
  unfold shiftExp
  pointwise

/-- A host division at an instance. -/
theorem weight_at (p q : FVec Ideal S16384 .f32) (t : Fin 16384) : Host.divf p q (ix1 t) = Ideal.div (p (ix1 t)) (q (ix1 t)) := rfl

/-- The scaled features of an instance. -/
theorem scaled_apply (a : FVec Ideal S16384 .f32) (h : FVec Ideal S16384x512 .f32) (t : Fin 16384) (k : Fin 512) :
    scaled a h (ix2 t k) = a (ix1 t) * h (ix2 t k) := by
  unfold scaled
  pointwise

/-- The logits from the pooled features. -/
theorem logits_apply (p : FVec Ideal S8x512 .f32) (w : FVec Ideal S512x2 .f32) (b : FVec Ideal S2 .f32) (i : Fin 8) (j : Fin 2) :
    logits p w b (ix2 i j) = (∑ k, p (ix2 i k) * w (ix2 k j)) + b (ix1 j) := by
  unfold logits
  pointwise

/-- An accumulating scatter of floats at an index: what is there plus every update that lands on it. -/
theorem scatterAdd_at {s si su : Shape} {n : Nat} (d : ScatterDims s si su) (x : FVec Ideal s .f32) (idx : IVec si n)
    (upd : FVec Ideal su .f32) (i : s.Idx) :
    Host.scatterAdd d x idx upd i = x i + ∑ j, if d.resultIdx? j idx = some i then upd j else 0 := by
  unfold Host.scatterAdd
  rw [Ideal.hostScatterAdd_def]
  unfold Ideal.hostScatterAdd
  rw [Finset.sum_filter]

/-- The word of the negative infinity reads as the bottom. -/
theorem minus_infinity : Ideal.ofBits FTy.f32 4286578688#32 = ⊥ := by
  simp [Ideal.ofBits, Ideal.ieee]

variable (seg : IVec S16384 32) (hseg : ∀ t : Fin 16384, seg (ix1 t) = BitVec.ofNat 32 (t.val / 2048))

include hseg

/-- No bag's number is negative, so the column of indices holds the bags themselves. -/
theorem bagIdx_apply (t : Fin 16384) : bagIdx seg (ix2 t 0) = BitVec.ofNat 32 (t.val / 2048) := by
  unfold bagIdx
  pointwise
  rw [hseg]
  exact wrap_of_lt _ _ (by rw [BitVec.toNat_ofNat]; omega)

/-- A value of the bags, handed to an instance, is its bag's. -/
theorem spread_apply (x : FVec Ideal S8 .f32) (t : Fin 16384) (b : Fin 8) (hb : t.val / 2048 = b.val) :
    spread x seg (ix1 t) = x (ix1 b) := by
  unfold spread
  exact gather_take1 _ rfl rfl rfl rfl x (bagIdx seg) t b ((bagIdx_apply seg hseg t).trans (by rw [hb])) (by decide)

/-- The column of indices a sum over the bags is taken with. -/
theorem column_toInt (t : Fin 16384) :
    (broadcastInDim S16384x1 ![0] bcast_S16384_S16384x1_0 seg (ix2 t 0)).toInt = ((t.val / 2048 : Nat) : Int) := by
  pointwise
  rw [hseg]
  exact toInt_small _ (by omega)

/-- A bag's sum is the sum over its instances. -/
theorem bagSum_apply (e : FVec Ideal S16384 .f32) (b : Fin 8) : bagSum seg e (ix1 b) = ∑ r, e (ix1 (inst b r)) := by
  unfold bagSum
  rw [scatterAdd_at, sum_idx1, ← sum_bag b fun t => e (ix1 t)]
  have hz : (broadcastInDim S8 ![] bcast_S_S8 (constant (F := Ideal) S_ .f32 0x00000000#32)) (ix1 b) = (0 : EReal) := by pointwise
  rw [hz, zero_add]
  refine Finset.sum_congr rfl fun t _ => if_congr ?_ rfl rfl
  rw [bag_lands, column_toInt seg hseg]
  exact Nat.cast_inj

/-- A bag's row of sums is the sum of its instances' rows. -/
theorem bagRows_apply (y : FVec Ideal S16384x512 .f32) (b : Fin 8) (k : Fin 512) :
    bagRows seg y (ix2 b k) = ∑ r, y (ix2 (inst b r) k) := by
  unfold bagRows
  rw [scatterAdd_at, sum_idx2, ← sum_bag b fun t => y (ix2 t k)]
  have hz : (broadcastInDim S8x512 ![] bcast_S_S8x512 (constant (F := Ideal) S_ .f32 0x00000000#32)) (ix2 b k) = (0 : EReal) := by pointwise
  rw [hz, zero_add]
  refine Finset.sum_congr rfl fun t _ => ?_
  rw [Finset.sum_eq_single k]
  · refine if_congr ?_ rfl rfl
    rw [bag_row_lands, column_toInt seg hseg, Nat.cast_inj]
    exact and_iff_left rfl
  · intro l _ hl
    exact if_neg fun h => hl ((bag_row_lands _ _ _ _ _).1 h).2
  · intro h; exact absurd (Finset.mem_univ k) h

/-- The largest score of a bag as the largest of a masked list. -/
theorem bagMax_apply (s : FVec Ideal S16384 .f32) (b : Fin 8) :
    bagMax seg s (ix1 b) = Finset.univ.fold max ⊥ (fun t : Fin 16384 => if t.val / 2048 = b.val then s (ix1 t) else ⊥) := by
  unfold bagMax
  pointwise
  rw [minus_infinity]
  congr 1
  funext t
  rw [hseg]
  have hbit : IntOp.cmpi .eq (BitVec.ofNat 32 (t.val / 2048)) (BitVec.ofNat 32 b.val)
      = BitVec.ofBool (BitVec.ofNat 32 (t.val / 2048) == BitVec.ofNat 32 b.val) := rfl
  rw [hbit]
  by_cases h : t.val / 2048 = b.val
  · rw [if_pos h, h, beq_self_eq_true]; rfl
  · have hne : (BitVec.ofNat 32 (t.val / 2048) == BitVec.ofNat 32 b.val) = false := by
      rw [beq_eq_false_iff_ne]
      intro e
      have := congrArg BitVec.toNat e
      simp only [BitVec.toNat_ofNat] at this
      omega
    rw [if_neg h, hne]; rfl

/-- The whole reference at bag `b` and class `j`, the attention vector finite: the bag's logit. -/
theorem whole_apply (x : FVec Ideal S16384x1024 .f32) (w : FVec Ideal S1024x512 .f32) (b : FVec Ideal S512 .f32)
    (v u : FVec Ideal S512x256 .f32) (wa : FVec Ideal S256x1 .f32) (wp : FVec Ideal S512x2 .f32) (bp : FVec Ideal S2 .f32)
    (hwa : ∀ a : Fin 256, ∃ r : ℝ, wa (ix2 a 0) = (r : EReal)) (i : Fin 8) (j : Fin 2) :
    whole seg x w b v u wa wp bp (ix2 i j)
      = logit (fun (t : Fin 2048) q => x (ix2 (inst i t) q)) (fun q k => w (ix2 q k)) (fun k => b (ix1 k))
          (fun k a => v (ix2 k a)) (fun k a => u (ix2 k a)) (fun a => wa (ix2 a 0)) (fun k => wp (ix2 k j)) (bp (ix1 j)) := by
  -- the scores are reals, hence so is the bag's largest
  have hs : ∀ t : Fin 16384, ∃ r : ℝ, scoreVec (scoreCol (feats x w b) v u wa) (ix1 t) = (r : EReal) := fun t => by
    rw [score_apply]
    exact score_real _ _ _ _ hwa
  have hin : ∀ r : Fin 2048, (inst i r).val / 2048 = i.val := fun r => by
    show (2048 * i.val + r.val) / 2048 = i.val
    omega
  obtain ⟨M, hM⟩ := max_real (fun t : Fin 16384 => t.val / 2048 = i.val) (fun t => scoreVec (scoreCol (feats x w b) v u wa) (ix1 t)) hs
    (inst i 0) (hin 0)
  rw [← bagMax_apply seg hseg] at hM
  choose σ hσ using hs
  -- the shifted exponentials and the weights of the bag's instances
  have hshift : ∀ r : Fin 2048, shiftExp (scoreVec (scoreCol (feats x w b) v u wa))
      (spread (bagMax seg (scoreVec (scoreCol (feats x w b) v u wa))) seg) (ix1 (inst i r))
        = Ideal.exp ((σ (inst i r) : EReal) - (M : EReal)) := fun r => by
    rw [shiftExp_apply, spread_apply seg hseg _ _ i (hin r), hM, hσ]
  have hweight : ∀ r : Fin 2048, weights seg (scoreVec (scoreCol (feats x w b) v u wa)) (ix1 (inst i r))
      = Ideal.div (Ideal.exp ((σ (inst i r) : EReal) - (M : EReal)))
          (∑ r', Ideal.exp ((σ (inst i r') : EReal) - (M : EReal))) := fun r => by
    unfold weights
    rw [weight_at, spread_apply seg hseg _ _ i (hin r), bagSum_apply seg hseg, hshift]
    exact congrArg (Ideal.div _) (Finset.sum_congr rfl fun r' _ => hshift r')
  unfold whole
  rw [logits_apply]
  unfold logit
  refine congrArg (fun z : EReal => z + bp (ix1 j)) ?_
  have hscore : ∀ r : Fin 2048, score (hidden (fun q => x (ix2 (inst i r) q)) (fun q k => w (ix2 q k)) (fun k => b (ix1 k)))
      (fun k a => v (ix2 k a)) (fun k a => u (ix2 k a)) (fun a => wa (ix2 a 0)) = (σ (inst i r) : EReal) := fun r => by
    rw [← hσ, score_apply]
    refine congrArg (fun h => score h _ _ _) ?_
    exact funext fun k => (feats_apply x w b _ k).symm
  simp only [hscore]
  rw [pool_eq (fun r : Fin 2048 => σ (inst i r)) M]
  refine Finset.sum_congr rfl fun k _ => ?_
  refine congrArg (fun z : EReal => z * wp (ix2 k j)) ?_
  rw [bagRows_apply seg hseg]
  refine Finset.sum_congr rfl fun r _ => ?_
  rw [scaled_apply, hweight, feats_apply]

end Cert.ReferenceIdeal.Hand

end
-- ==== Proof.Agree.lean ====
module

public import proofs.«01_k».proof.Defs
public import proofs.«01_k».proof.Proof.Pre
public import proofs.«01_k».proof.Proof.KernelValue
public import proofs.«01_k».proof.Proof.RefValue

@[expose] public section

noncomputable section

namespace Cert.Proof

open Idealize.ShloMosaic Idealize.ShloMosaic.TcCoe Idealize.SL.Sem

/-- Memories that agree on the nine arguments and satisfy the precondition: the reference's result is the kernel's. -/
theorem same_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal_finite_attn_equal_split (hPre_finite_attn_equal_split := Cert.Pre_finite_attn_equal_split.facts) m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) :
    Cert.ReferenceIdeal.Value.res_main_v66 (F := Ideal) m' c = Cert.KernelIdeal.Hand.result m c := by
  haveI := Cert.Pre_finite_attn_equal_split.facts
  have hp := Cert.Pre_finite_attn_equal_split.at_index _ _ _ _ _ _ _ _ _ (hpre c)
  rw [Cert.ReferenceIdeal.Hand.res_eq, h0, h1, h2, h3, h4, h5, h6, h7, h8]
  funext i
  obtain ⟨b, j, rfl⟩ : ∃ (b : Fin 8) (j : Fin 2), i = ix2 b j := ⟨i 0, i 1, (ix2_eta i).symm⟩
  rw [Cert.KernelIdeal.Hand.result_apply]
  exact Cert.ReferenceIdeal.Hand.whole_apply _
    (Cert.ReferenceIdeal.Hand.bagOf_apply _ (Cert.ReferenceIdeal.Hand.starts_apply _
      (Cert.ReferenceIdeal.Hand.marks_apply _ fun i => (hp 0 i).2)))
    _ _ _ _ _ _ _ _ (fun a => (hp a 0).1) b j

/-- Under the precondition the idealized kernel and the reference compute the same logits from the same arguments. -/
theorem agree : Cert.algebraic_KernelIdeal_ReferenceIdeal_pre_finite_attn_equal_split
    (hKernelIdeal := Cert.KernelIdeal.Gen.facts) (hReferenceIdeal := Cert.ReferenceIdeal.Gen.facts)
    (hPre_finite_attn_equal_split := Cert.Pre_finite_attn_equal_split.facts) := by
  intro m g m' g' hpre hargs
  refine ⟨fun c => Cert.KernelIdeal.Hand.result m c, ?_, ?_⟩
  · exact (θ_run _ _ _).mono
      (fun _ h c => ⟨Cert.KernelIdeal.Hand.result_of_post m h.1 c, Cert.KernelIdeal.Hand.args_of_post m h.1 c⟩)
      (Cert.KernelIdeal.Hand.run_all m g)
  · refine (θ_run _ _ _).mono (fun r h c => ⟨(h c).1.trans ?_, (h c).2⟩) (Cert.ReferenceIdeal.Value.run m' g')
    obtain ⟨h0, h1, h2, h3, h4, h5, h6, h7, h8⟩ := hargs c
    exact same_result m m' c hpre h0 h1 h2 h3 h4 h5 h6 h7 h8

end Cert.Proof

end
-- ==== Proof.lean ====
/- The certificate assembled: frames from Proof/Frames.lean, the value claim from Proof/Agree.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The certificate's claim: the three programs run and leave their arguments alone, the idealized kernel is the kernel with
    its floats read as extended reals, and under the precondition its result is the reference's. -/
theorem claim : Cert.Claim :=
  ⟨Cert.Kernel.Gen.facts, Cert.KernelIdeal.Gen.facts, Cert.ReferenceIdeal.Gen.facts, Cert.Pre_finite_attn_equal_split.facts,
    frame_kernel, frame_kernelIdeal, fun m ρ _ => frame_kernelIdeal m ρ trivial, frame_referenceIdeal,
    fun m ρ _ => frame_referenceIdeal m ρ trivial, trivial, agree⟩

end Cert.Proof

end
